-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2560x13824 : Shape := ⟨3, ![3, 2560, 13824]⟩
abbrev S3x40x13824 : Shape := ⟨3, ![3, 40, 13824]⟩
abbrev S3x5120x64 : Shape := ⟨3, ![3, 5120, 64]⟩
abbrev S3x64x13824 : Shape := ⟨3, ![3, 64, 13824]⟩
abbrev S1x2560x256 : Shape := ⟨3, ![1, 2560, 256]⟩
abbrev S1x40x256 : Shape := ⟨3, ![1, 40, 256]⟩
abbrev S1x5120x64 : Shape := ⟨3, ![1, 5120, 64]⟩
abbrev S1x64x256 : Shape := ⟨3, ![1, 64, 256]⟩
abbrev S64x256 : Shape := ⟨2, ![64, 256]⟩
abbrev S1x8x256 : Shape := ⟨3, ![1, 8, 256]⟩
abbrev S8x256 : Shape := ⟨2, ![8, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S1x128x64 : Shape := ⟨3, ![1, 128, 64]⟩
abbrev S128x64 : Shape := ⟨2, ![128, 64]⟩
abbrev S256 : Shape := ⟨1, ![256]⟩

abbrev nBuf : Space → Nat
  | .hbm => 6
  | .vmem => 12
  | .smem => 0
  | _ => 0

abbrev bufTy : (tb : Table) → Fin (tcTables nBuf tb) → BufTy
  | .hbm, ⟨0, _⟩ => ⟨S3x2560x13824, .i8⟩
  | .hbm, ⟨1, _⟩ => ⟨S3x40x13824, .bf16⟩
  | .hbm, ⟨2, _⟩ => ⟨S3x5120x64, .bf16⟩
  | .hbm, ⟨3, _⟩ => ⟨S3x64x13824, .bf16⟩
  | .hbm, ⟨4, _⟩ => ⟨S3x2560x13824, .i8⟩
  | .hbm, ⟨5, _⟩ => ⟨S3x40x13824, .bf16⟩
  | .local _ .vmem, ⟨0, _⟩ => ⟨S1x2560x256, .i8⟩
  | .local _ .vmem, ⟨1, _⟩ => ⟨S1x2560x256, .i8⟩
  | .local _ .vmem, ⟨2, _⟩ => ⟨S1x40x256, .bf16⟩
  | .local _ .vmem, ⟨3, _⟩ => ⟨S1x40x256, .bf16⟩
  | .local _ .vmem, ⟨4, _⟩ => ⟨S1x5120x64, .bf16⟩
  | .local _ .vmem, ⟨5, _⟩ => ⟨S1x5120x64, .bf16⟩
  | .local _ .vmem, ⟨6, _⟩ => ⟨S1x64x256, .bf16⟩
  | .local _ .vmem, ⟨7, _⟩ => ⟨S1x64x256, .bf16⟩
  | .local _ .vmem, ⟨8, _⟩ => ⟨S1x2560x256, .i8⟩
  | .local _ .vmem, ⟨9, _⟩ => ⟨S1x2560x256, .i8⟩
  | .local _ .vmem, ⟨10, _⟩ => ⟨S1x40x256, .bf16⟩
  | .local _ .vmem, ⟨11, _⟩ => ⟨S1x40x256, .bf16⟩
  | _, _ => ⟨S3x2560x13824, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 54], ![false, false]⟩

@[reducible] def k0_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k0_off1 (k0_t1 : Fin k0_t1_loop.trips) : Fin 3 → Nat :=
  let c0_3 : Index := 0#32
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let v6 : Index := Scalar.indexCast v5
  let c0_4 : Index := 0#32
  ![0, v6.toNat, 0]
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let c0_i32_6 : BitVec 32 := 0#32
  let v11 : BitVec 32 := Scalar.addi v10 c0_i32_6
  let c64_i32 : BitVec 32 := 64#32
  let v12 : BitVec 32 := Scalar.muli v11 c64_i32
  v12
def k0_off2 (k0_t1 : Fin k0_t1_loop.trips) (c0_i32_6 : BitVec 32) : Fin 3 → Nat :=
  let c0_7 : Index := 0#32
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let v11 : BitVec 32 := Scalar.addi v10 c0_i32_6
  let c64_i32 : BitVec 32 := 64#32
  let v12 : BitVec 32 := Scalar.muli v11 c64_i32
  let v13 : BitVec 32 := v12
  let v14 : Index := Scalar.indexCast v13
  let c0_8 : Index := 0#32
  ![0, v14.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let c0_i32_6 : BitVec 32 := 0#32
  let v11 : BitVec 32 := Scalar.addi v10 c0_i32_6
  let c128_i32 : BitVec 32 := 128#32
  let v32 : BitVec 32 := Scalar.muli v11 c128_i32
  v32
def k0_off3 (k0_t1 : Fin k0_t1_loop.trips) (c0_i32_6 : BitVec 32) : Fin 3 → Nat :=
  let c0_9 : Index := 0#32
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let v11 : BitVec 32 := Scalar.addi v10 c0_i32_6
  let c128_i32 : BitVec 32 := 128#32
  let v32 : BitVec 32 := Scalar.muli v11 c128_i32
  let v33 : BitVec 32 := v32
  let v34 : Index := Scalar.indexCast v33
  let c0_10 : Index := 0#32
  ![0, v34.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_23 : BitVec 32 := 8#32
  let v79 : BitVec 32 := Scalar.muli arg8 c8_i32_23
  let c1_i32_24 : BitVec 32 := 1#32
  let v80 : BitVec 32 := Scalar.addi v79 c1_i32_24
  let c64_i32_25 : BitVec 32 := 64#32
  let v81 : BitVec 32 := Scalar.muli v80 c64_i32_25
  v81
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_23 : BitVec 32 := 8#32
  let v79 : BitVec 32 := Scalar.muli arg8 c8_i32_23
  let c1_i32_24 : BitVec 32 := 1#32
  let v80 : BitVec 32 := Scalar.addi v79 c1_i32_24
  let c128_i32_29 : BitVec 32 := 128#32
  let v101 : BitVec 32 := Scalar.muli v80 c128_i32_29
  v101
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_45 : BitVec 32 := 8#32
  let v148 : BitVec 32 := Scalar.muli arg8 c8_i32_45
  let c2_i32 : BitVec 32 := 2#32
  let v149 : BitVec 32 := Scalar.addi v148 c2_i32
  let c64_i32_46 : BitVec 32 := 64#32
  let v150 : BitVec 32 := Scalar.muli v149 c64_i32_46
  v150
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_45 : BitVec 32 := 8#32
  let v148 : BitVec 32 := Scalar.muli arg8 c8_i32_45
  let c2_i32 : BitVec 32 := 2#32
  let v149 : BitVec 32 := Scalar.addi v148 c2_i32
  let c128_i32_50 : BitVec 32 := 128#32
  let v170 : BitVec 32 := Scalar.muli v149 c128_i32_50
  v170
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_66 : BitVec 32 := 8#32
  let v217 : BitVec 32 := Scalar.muli arg8 c8_i32_66
  let c3_i32 : BitVec 32 := 3#32
  let v218 : BitVec 32 := Scalar.addi v217 c3_i32
  let c64_i32_67 : BitVec 32 := 64#32
  let v219 : BitVec 32 := Scalar.muli v218 c64_i32_67
  v219
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_66 : BitVec 32 := 8#32
  let v217 : BitVec 32 := Scalar.muli arg8 c8_i32_66
  let c3_i32 : BitVec 32 := 3#32
  let v218 : BitVec 32 := Scalar.addi v217 c3_i32
  let c128_i32_71 : BitVec 32 := 128#32
  let v239 : BitVec 32 := Scalar.muli v218 c128_i32_71
  v239
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_87 : BitVec 32 := 8#32
  let v286 : BitVec 32 := Scalar.muli arg8 c8_i32_87
  let c4_i32_88 : BitVec 32 := 4#32
  let v287 : BitVec 32 := Scalar.addi v286 c4_i32_88
  let c64_i32_89 : BitVec 32 := 64#32
  let v288 : BitVec 32 := Scalar.muli v287 c64_i32_89
  v288
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_87 : BitVec 32 := 8#32
  let v286 : BitVec 32 := Scalar.muli arg8 c8_i32_87
  let c4_i32_88 : BitVec 32 := 4#32
  let v287 : BitVec 32 := Scalar.addi v286 c4_i32_88
  let c128_i32_93 : BitVec 32 := 128#32
  let v308 : BitVec 32 := Scalar.muli v287 c128_i32_93
  v308
def k0_mult11 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_109 : BitVec 32 := 8#32
  let v355 : BitVec 32 := Scalar.muli arg8 c8_i32_109
  let c5_i32_110 : BitVec 32 := 5#32
  let v356 : BitVec 32 := Scalar.addi v355 c5_i32_110
  let c64_i32_111 : BitVec 32 := 64#32
  let v357 : BitVec 32 := Scalar.muli v356 c64_i32_111
  v357
def k0_mult12 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_109 : BitVec 32 := 8#32
  let v355 : BitVec 32 := Scalar.muli arg8 c8_i32_109
  let c5_i32_110 : BitVec 32 := 5#32
  let v356 : BitVec 32 := Scalar.addi v355 c5_i32_110
  let c128_i32_115 : BitVec 32 := 128#32
  let v377 : BitVec 32 := Scalar.muli v356 c128_i32_115
  v377
def k0_mult13 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_131 : BitVec 32 := 8#32
  let v424 : BitVec 32 := Scalar.muli arg8 c8_i32_131
  let c6_i32 : BitVec 32 := 6#32
  let v425 : BitVec 32 := Scalar.addi v424 c6_i32
  let c64_i32_132 : BitVec 32 := 64#32
  let v426 : BitVec 32 := Scalar.muli v425 c64_i32_132
  v426
def k0_mult14 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_131 : BitVec 32 := 8#32
  let v424 : BitVec 32 := Scalar.muli arg8 c8_i32_131
  let c6_i32 : BitVec 32 := 6#32
  let v425 : BitVec 32 := Scalar.addi v424 c6_i32
  let c128_i32_136 : BitVec 32 := 128#32
  let v446 : BitVec 32 := Scalar.muli v425 c128_i32_136
  v446
def k0_mult15 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_152 : BitVec 32 := 8#32
  let v493 : BitVec 32 := Scalar.muli arg8 c8_i32_152
  let c7_i32 : BitVec 32 := 7#32
  let v494 : BitVec 32 := Scalar.addi v493 c7_i32
  let c64_i32_153 : BitVec 32 := 64#32
  let v495 : BitVec 32 := Scalar.muli v494 c64_i32_153
  v495
def k0_mult16 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_152 : BitVec 32 := 8#32
  let v493 : BitVec 32 := Scalar.muli arg8 c8_i32_152
  let c7_i32 : BitVec 32 := 7#32
  let v494 : BitVec 32 := Scalar.addi v493 c7_i32
  let c128_i32_157 : BitVec 32 := 128#32
  let v515 : BitVec 32 := Scalar.muli v494 c128_i32_157
  v515
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2560x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5120x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x40x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x2560x13824 : Shape := ⟨3, ![3, 2560, 13824]⟩
abbrev S3x40x13824 : Shape := ⟨3, ![3, 40, 13824]⟩
abbrev S3x5120x64 : Shape := ⟨3, ![3, 5120, 64]⟩
abbrev S3x64x13824 : Shape := ⟨3, ![3, 64, 13824]⟩
abbrev S_ : Shape := ⟨0, ![]⟩
abbrev S3x40x1x13824 : Shape := ⟨4, ![3, 40, 1, 13824]⟩
abbrev S3x40x64x13824 : Shape := ⟨4, ![3, 40, 64, 13824]⟩
abbrev S3x40x64x2x64 : Shape := ⟨5, ![3, 40, 64, 2, 64]⟩
abbrev S3x40x64x1x64 : Shape := ⟨5, ![3, 40, 64, 1, 64]⟩
abbrev S3x40x64x64 : Shape := ⟨4, ![3, 40, 64, 64]⟩

abbrev nBuf : Space → Nat
  | .hbm => 110
  | .vmem => 0
  | .smem => 0
  | _ => 0

abbrev bufTy : (tb : Table) → Fin (tcTables nBuf tb) → BufTy
  | .hbm, ⟨0, _⟩ => ⟨S3x2560x13824, .i8⟩
  | .hbm, ⟨1, _⟩ => ⟨S3x40x13824, .bf16⟩
  | .hbm, ⟨2, _⟩ => ⟨S3x5120x64, .bf16⟩
  | .hbm, ⟨3, _⟩ => ⟨S3x64x13824, .bf16⟩
  | .hbm, ⟨4, _⟩ => ⟨S3x2560x13824, .i32⟩
  | .hbm, ⟨5, _⟩ => ⟨S_, .i32⟩
  | .hbm, ⟨6, _⟩ => ⟨S3x2560x13824, .i32⟩
  | .hbm, ⟨7, _⟩ => ⟨S3x2560x13824, .i32⟩
  | .hbm, ⟨8, _⟩ => ⟨S_, .i32⟩
  | .hbm, ⟨9, _⟩ => ⟨S3x2560x13824, .i32⟩
  | .hbm, ⟨10, _⟩ => ⟨S3x2560x13824, .i32⟩
  | .hbm, ⟨11, _⟩ => ⟨S_, .i32⟩
  | .hbm, ⟨12, _⟩ => ⟨S3x2560x13824, .i32⟩
  | .hbm, ⟨13, _⟩ => ⟨S3x2560x13824, .i1⟩
  | .hbm, ⟨14, _⟩ => ⟨S_, .i32⟩
  | .hbm, ⟨15, _⟩ => ⟨S3x2560x13824, .i32⟩
  | .hbm, ⟨16, _⟩ => ⟨S3x2560x13824, .i32⟩
  | .hbm, ⟨17, _⟩ => ⟨S3x2560x13824, .i32⟩
  | .hbm, ⟨18, _⟩ => ⟨S_, .i32⟩
  | .hbm, ⟨19, _⟩ => ⟨S3x2560x13824, .i32⟩
  | .hbm, ⟨20, _⟩ => ⟨S3x2560x13824, .i1⟩
  | .hbm, ⟨21, _⟩ => ⟨S_, .i32⟩
  | .hbm, ⟨22, _⟩ => ⟨S3x2560x13824, .i32⟩
  | .hbm, ⟨23, _⟩ => ⟨S3x2560x13824, .i32⟩
  | .hbm, ⟨24, _⟩ => ⟨S3x2560x13824, .i32⟩
  | .hbm, ⟨25, _⟩ => ⟨S3x40x13824, .f32⟩
  | .hbm, ⟨26, _⟩ => ⟨S3x40x1x13824, .f32⟩
  | .hbm, ⟨27, _⟩ => ⟨S3x40x64x13824, .i32⟩
  | .hbm, ⟨28, _⟩ => ⟨S3x40x64x13824, .f32⟩
  | .hbm, ⟨29, _⟩ => ⟨S3x40x64x13824, .f32⟩
  | .hbm, ⟨30, _⟩ => ⟨S3x40x64x13824, .f32⟩
  | .hbm, ⟨31, _⟩ => ⟨S3x40x64x13824, .i32⟩
  | .hbm, ⟨32, _⟩ => ⟨S3x40x64x13824, .f32⟩
  | .hbm, ⟨33, _⟩ => ⟨S3x40x64x13824, .f32⟩
  | .hbm, ⟨34, _⟩ => ⟨S3x40x64x13824, .f32⟩
  | .hbm, ⟨35, _⟩ => ⟨S3x40x64x2x64, .bf16⟩
  | .hbm, ⟨36, _⟩ => ⟨S3x40x64x1x64, .bf16⟩
  | .hbm, ⟨37, _⟩ => ⟨S3x40x64x64, .bf16⟩
  | .hbm, ⟨38, _⟩ => ⟨S3x40x64x13824, .f32⟩
  | .hbm, ⟨39, _⟩ => ⟨S3x40x64x1x64, .bf16⟩
  | .hbm, ⟨40, _⟩ => ⟨S3x40x64x64, .bf16⟩
  | .hbm, ⟨41, _⟩ => ⟨S3x40x64x13824, .f32⟩
  | .hbm, ⟨42, _⟩ => ⟨S_, .f32⟩
  | .hbm, ⟨43, _⟩ => ⟨S3x40x64x13824, .f32⟩
  | .hbm, ⟨44, _⟩ => ⟨S3x40x64x13824, .f32⟩
  | .hbm, ⟨45, _⟩ => ⟨S3x40x64x13824, .f32⟩
  | .hbm, ⟨46, _⟩ => ⟨S_, .f32⟩
  | .hbm, ⟨47, _⟩ => ⟨S3x40x64x13824, .f32⟩
  | .hbm, ⟨48, _⟩ => ⟨S3x40x64x13824, .f32⟩
  | .hbm, ⟨49, _⟩ => ⟨S3x40x64x13824, .f32⟩
  | .hbm, ⟨50, _⟩ => ⟨S3x40x64x13824, .f32⟩
  | .hbm, ⟨51, _⟩ => ⟨S_, .f32⟩
  | .hbm, ⟨52, _⟩ => ⟨S3x40x13824, .f32⟩
  | .hbm, ⟨53, _⟩ => ⟨S3x40x64x13824, .f32⟩
  | .hbm, ⟨54, _⟩ => ⟨S_, .f32⟩
  | .hbm, ⟨55, _⟩ => ⟨S3x40x13824, .f32⟩
  | .hbm, ⟨56, _⟩ => ⟨S3x40x13824, .f32⟩
  | .hbm, ⟨57, _⟩ => ⟨S_, .f32⟩
  | .hbm, ⟨58, _⟩ => ⟨S3x40x13824, .f32⟩
  | .hbm, ⟨59, _⟩ => ⟨S3x40x13824, .i1⟩
  | .hbm, ⟨60, _⟩ => ⟨S_, .f32⟩
  | .hbm, ⟨61, _⟩ => ⟨S3x40x13824, .f32⟩
  | .hbm, ⟨62, _⟩ => ⟨S3x40x13824, .f32⟩
  | .hbm, ⟨63, _⟩ => ⟨S_, .f32⟩
  | .hbm, ⟨64, _⟩ => ⟨S_, .f32⟩
  | .hbm, ⟨65, _⟩ => ⟨S3x40x13824, .f32⟩
  | .hbm, ⟨66, _⟩ => ⟨S3x40x13824, .f32⟩
  | .hbm, ⟨67, _⟩ => ⟨S3x40x13824, .bf16⟩
  | .hbm, ⟨68, _⟩ => ⟨S3x40x13824, .f32⟩
  | .hbm, ⟨69, _⟩ => ⟨S3x40x1x13824, .f32⟩
  | .hbm, ⟨70, _⟩ => ⟨S3x40x64x13824, .f32⟩
  | .hbm, ⟨71, _⟩ => ⟨S3x40x64x13824, .f32⟩
  | .hbm, ⟨72, _⟩ => ⟨S3x40x64x13824, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S3x40x64x13824, .f32⟩
  | .hbm, ⟨77, _⟩ => ⟨S3x40x64x13824, .f32⟩
  | .hbm, ⟨78, _⟩ => ⟨S_, .f32⟩
  | .hbm, ⟨79, _⟩ => ⟨S3x40x64x13824, .f32⟩
  | .hbm, ⟨80, _⟩ => ⟨S3x40x64x13824, .f32⟩
  | .hbm, ⟨81, _⟩ => ⟨S3x40x64x13824, .i32⟩
  | .hbm, ⟨82, _⟩ => ⟨S3x40x64x13824, .i8⟩
  | .hbm, ⟨83, _⟩ => ⟨S3x40x64x13824, .f32⟩
  | .hbm, ⟨84, _⟩ => ⟨S3x40x64x13824, .f32⟩
  | .hbm, ⟨85, _⟩ => ⟨S3x40x64x13824, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S3x40x64x13824, .f32⟩
  | .hbm, ⟨90, _⟩ => ⟨S3x40x64x13824, .f32⟩
  | .hbm, ⟨91, _⟩ => ⟨S_, .f32⟩
  | .hbm, ⟨92, _⟩ => ⟨S3x40x64x13824, .f32⟩
  | .hbm, ⟨93, _⟩ => ⟨S3x40x64x13824, .f32⟩
  | .hbm, ⟨94, _⟩ => ⟨S3x40x64x13824, .i32⟩
  | .hbm, ⟨95, _⟩ => ⟨S3x40x64x13824, .i8⟩
  | .hbm, ⟨96, _⟩ => ⟨S3x40x64x13824, .i32⟩
  | .hbm, ⟨97, _⟩ => ⟨S_, .i32⟩
  | .hbm, ⟨98, _⟩ => ⟨S3x40x64x13824, .i32⟩
  | .hbm, ⟨99, _⟩ => ⟨S3x40x64x13824, .i32⟩
  | .hbm, ⟨100, _⟩ => ⟨S3x40x64x13824, .i32⟩
  | .hbm, ⟨101, _⟩ => ⟨S_, .i32⟩
  | .hbm, ⟨102, _⟩ => ⟨S3x40x64x13824, .i32⟩
  | .hbm, ⟨103, _⟩ => ⟨S3x40x64x13824, .i32⟩
  | .hbm, ⟨104, _⟩ => ⟨S_, .i32⟩
  | .hbm, ⟨105, _⟩ => ⟨S3x40x64x13824, .i32⟩
  | .hbm, ⟨106, _⟩ => ⟨S3x40x64x13824, .i32⟩
  | .hbm, ⟨107, _⟩ => ⟨S3x40x64x13824, .i32⟩
  | .hbm, ⟨108, _⟩ => ⟨S3x40x64x13824, .i8⟩
  | .hbm, ⟨109, _⟩ => ⟨S3x2560x13824, .i8⟩
  | _, _ => ⟨S3x2560x13824, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_cst_12 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_cst_14 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_16 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== Proof.Column.lean ====
/-
  What one column of one group is turned into, in textbook arithmetic on the extended reals: the statement both the
  kernel and the reference are read down to.

  A group is 128 consecutive weight rows. In one output column it is given by 64 packed bytes (byte `p` holds the rows
  `2 p` and `2 p + 1`, low half first), one scale, the 128 rows of the left low-rank factor and the column of the right
  one. The group's merged weights are requantized to the integers of [-7, 7] over the column's own scale, and packed
  again.
-/
module

public import Idealize.ShloMosaic.Lib.Pointwise

@[expose] public section

noncomputable section

namespace Cert.Column

open Idealize.ShloMosaic

/-- The signed four-bit integer in half `h` of a packed byte (`h = 0` the low half), as a number. -/
def nibble (h : ℕ) (c : BitVec 8) : EReal := ((((c.setWidth 32).sshiftRight (4 * h)).setWidth 4).toInt : ℝ)

/-- Row `r` of the merged weight: the stored integer times its scale, plus half the low-rank product. -/
def weight (c : Fin 64 → BitVec 8) (s : EReal) (a : Fin 128 → Fin 64 → EReal) (b : Fin 64 → EReal) (r : Fin 128) : EReal :=
  nibble (r.val % 2) (c ⟨r.val / 2, by omega⟩) * s + ((1 / 2 : ℝ) : EReal) * ∑ k, a r k * b k

/-- The greatest magnitude of a column. -/
def peak (v : Fin 128 → EReal) : EReal := Finset.univ.fold max ⊥ fun r => max (v r) (-v r)

/-- The scale of a column whose greatest magnitude is `x`: a seventh of it, or one where the column is all zero. -/
def step (x : EReal) : EReal := if x = 0 then 1 else Ideal.div x 7

/-- The integer a weight `v` is rounded to at scale `s`: the quotient to the nearest integer, ties to even, held within
    [-7, 7], as a word. -/
def level (v s : EReal) : BitVec 32 :=
  Ideal.fptosi 32 (min 7 (max (-7) (Ideal.liftRound Ideal.roundHalfEven (Ideal.div v s))))

/-- Two integers packed into one byte by their low four bits, the first in the low half. -/
def pack (p q : BitVec 32) : BitVec 8 := ((p &&& 15#32) ||| ((q &&& 15#32) <<< 4)).setWidth 8

/-- The scale of the column after merging. -/
def scaleOut (c : Fin 64 → BitVec 8) (s : EReal) (a : Fin 128 → Fin 64 → EReal) (b : Fin 64 → EReal) : EReal :=
  step (peak (weight c s a b))

/-- Byte `p` of the column after merging. -/
def codeOut (c : Fin 64 → BitVec 8) (s : EReal) (a : Fin 128 → Fin 64 → EReal) (b : Fin 64 → EReal) (p : Fin 64) : BitVec 8 :=
  pack (level (weight c s a b ⟨2 * p.val, by omega⟩) (scaleOut c s a b))
    (level (weight c s a b ⟨2 * p.val + 1, by omega⟩) (scaleOut c s a b))

/-! ## The same over whole arrays

Over `B` matrices of 5120 weight rows, so 40 groups, and `n` columns: packed bytes `x0`, scales `x1`, left factors `x2`
and right factors `x3`. A block of columns of one matrix is such arrays too, with `B = 1`. -/

section Arrays

variable {B n : ℕ} (x0 : (⟨3, ![B, 2560, n]⟩ : Shape).Idx → BitVec 8) (x1 : (⟨3, ![B, 40, n]⟩ : Shape).Idx → EReal)
  (x2 : (⟨3, ![B, 5120, 64]⟩ : Shape).Idx → EReal) (x3 : (⟨3, ![B, 64, n]⟩ : Shape).Idx → EReal)

/-- The new scale of group `g` of matrix `b` in column `l`. -/
def scaleAt (b : Fin B) (g : Fin 40) (l : Fin n) : EReal :=
  scaleOut (fun p => x0 (ix3 b ⟨64 * g.val + p.val, by omega⟩ l)) (x1 (ix3 b g l))
    (fun r k => x2 (ix3 b ⟨128 * g.val + r.val, by omega⟩ k)) (fun k => x3 (ix3 b k l))

/-- The new byte `p` of group `g` of matrix `b` in column `l`. -/
def codeAt (b : Fin B) (g : Fin 40) (p : Fin 64) (l : Fin n) : BitVec 8 :=
  codeOut (fun p => x0 (ix3 b ⟨64 * g.val + p.val, by omega⟩ l)) (x1 (ix3 b g l))
    (fun r k => x2 (ix3 b ⟨128 * g.val + r.val, by omega⟩ k)) (fun k => x3 (ix3 b k l)) p

/-- All the new scales. -/
def scalesOut : (⟨3, ![B, 40, n]⟩ : Shape).Idx → EReal := fun y => scaleAt x0 x1 x2 x3 (y 0) (y 1) (y 2)

/-- All the new bytes: row `R` is byte `R % 64` of group `R / 64`. -/
def codesOut : (⟨3, ![B, 2560, n]⟩ : Shape).Idx → BitVec 8 := fun y =>
  codeAt x0 x1 x2 x3 (y 0) ⟨(y 1).val / 64, by have h : (y 1).val < 2560 := (y 1).isLt; omega⟩
    ⟨(y 1).val % 64, Nat.mod_lt _ (by decide)⟩ (y 2)

end Arrays

/-! ## A block of columns of one matrix -/

section Columns

variable {B n w : ℕ} {x0 : (⟨3, ![B, 2560, n]⟩ : Shape).Idx → BitVec 8} {x1 : (⟨3, ![B, 40, n]⟩ : Shape).Idx → EReal}
  {x2 : (⟨3, ![B, 5120, 64]⟩ : Shape).Idx → EReal} {x3 : (⟨3, ![B, 64, n]⟩ : Shape).Idx → EReal}
  {y0 : (⟨3, ![1, 2560, w]⟩ : Shape).Idx → BitVec 8} {y1 : (⟨3, ![1, 40, w]⟩ : Shape).Idx → EReal}
  {y2 : (⟨3, ![1, 5120, 64]⟩ : Shape).Idx → EReal} {y3 : (⟨3, ![1, 64, w]⟩ : Shape).Idx → EReal} {b : Fin B} {f : Fin w → Fin n}

/-- The new scales of a block are the arrays' new scales there: a column's values depend on that column alone. -/
theorem scalesOut_block (h0 : ∀ p l, y0 (ix3 0 p l) = x0 (ix3 b p (f l))) (h1 : ∀ p l, y1 (ix3 0 p l) = x1 (ix3 b p (f l)))
    (h2 : ∀ p l, y2 (ix3 0 p l) = x2 (ix3 b p l)) (h3 : ∀ p l, y3 (ix3 0 p l) = x3 (ix3 b p (f l))) (g : Fin 40) (l : Fin w) :
    scalesOut y0 y1 y2 y3 (ix3 0 g l) = scalesOut x0 x1 x2 x3 (ix3 b g (f l)) := by
  show scaleAt y0 y1 y2 y3 0 g l = scaleAt x0 x1 x2 x3 b g (f l)
  unfold scaleAt
  simp only [h0, h1, h2, h3]

/-- The new bytes of a block are the arrays' new bytes there. -/
theorem codesOut_block (h0 : ∀ p l, y0 (ix3 0 p l) = x0 (ix3 b p (f l))) (h1 : ∀ p l, y1 (ix3 0 p l) = x1 (ix3 b p (f l)))
    (h2 : ∀ p l, y2 (ix3 0 p l) = x2 (ix3 b p l)) (h3 : ∀ p l, y3 (ix3 0 p l) = x3 (ix3 b p (f l))) (R : Fin 2560) (l : Fin w) :
    codesOut y0 y1 y2 y3 (ix3 0 R l) = codesOut x0 x1 x2 x3 (ix3 b R (f l)) := by
  show codeAt y0 y1 y2 y3 0 _ _ l = codeAt x0 x1 x2 x3 b _ _ (f l)
  unfold codeAt
  simp only [h0, h1, h2, h3]
  rfl

end Columns

end Cert.Column

end
-- ==== Proof.Numbers.lean ====
/-
  The facts about numbers and words the equation rests on, with no program in them: the constants, rounding and holding
  within [-7, 7] in either order, dividing by a scale or multiplying by its reciprocal, halving a product before or after
  the sum, taking four bits out of a byte and putting them back.
-/
module

public import proofs.«01_k».proof.Proof.Column
public import Idealize.ShloMosaic.Lib.IdealHost

@[expose] public section

noncomputable section

namespace Cert.Column

open Idealize.ShloMosaic

/-! ## The constants -/

theorem ofBits_seven : Ideal.ofBits .f32 0x40E00000#32 = 7 := by
  rw [show (7 : EReal) = ((7 : ℝ) : EReal) from rfl]
  simp [Ideal.ofBits, Ideal.ieee, -EReal.coe_mul]; norm_num

theorem coe_neg_seven : ((-7 : ℝ) : EReal) = -7 := rfl

theorem ofBits_neg_seven : Ideal.ofBits .f32 0xC0E00000#32 = -7 := by
  rw [← coe_neg_seven]
  simp [Ideal.ofBits, Ideal.ieee, -EReal.coe_mul, -EReal.coe_neg]; norm_num

theorem ofBits_half_f32 : Ideal.ofBits .f32 0x3F000000#32 = ((1 / 2 : ℝ) : EReal) := by
  simp [Ideal.ofBits, Ideal.ieee, -EReal.coe_mul]; norm_num

theorem ofBits_half_bf16 : Ideal.ofBits .bf16 0x3F00#16 = ((1 / 2 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-! ## Rounding and the bounds -/

theorem roundHalfEven_mono : Monotone Ideal.roundHalfEven := by
  intro x y hxy
  have hf : ⌊x⌋ ≤ ⌊y⌋ := Int.floor_mono hxy
  rcases hf.lt_or_eq with h | h
  · have hx : Ideal.roundHalfEven x ≤ ⌊x⌋ + 1 := by
      unfold Ideal.roundHalfEven; dsimp only; split_ifs <;> omega
    have hy : ⌊y⌋ ≤ Ideal.roundHalfEven y := by
      unfold Ideal.roundHalfEven; dsimp only; split_ifs <;> omega
    omega
  · unfold Ideal.roundHalfEven
    dsimp only
    rw [h]
    generalize ⌊y⌋ = n
    split_ifs <;> first | omega | (exfalso; linarith)

theorem liftRound_mono : Monotone (Ideal.liftRound Ideal.roundHalfEven) := by
  intro x y hxy
  induction x with
  | bot => exact bot_le
  | top => rw [top_le_iff] at hxy; subst hxy; exact le_rfl
  | coe x =>
    induction y with
    | bot => simp at hxy
    | top => exact le_top
    | coe y =>
      show (((Ideal.roundHalfEven x : ℤ) : ℝ) : EReal) ≤ (((Ideal.roundHalfEven y : ℤ) : ℝ) : EReal)
      exact_mod_cast roundHalfEven_mono (EReal.coe_le_coe_iff.mp hxy)

theorem liftRound_int (n : ℤ) : Ideal.liftRound Ideal.roundHalfEven ((n : ℝ) : EReal) = ((n : ℝ) : EReal) := by
  show (((Ideal.roundHalfEven (n : ℝ) : ℤ) : ℝ) : EReal) = _
  have : Ideal.roundHalfEven (n : ℝ) = n := by simp [Ideal.roundHalfEven]
  rw [this]

/-- Rounding a number already held within [-7, 7] is holding the rounded number there. -/
theorem round_clip (x : EReal) : Ideal.liftRound Ideal.roundHalfEven (min 7 (max (-7) x))
    = min 7 (max (-7) (Ideal.liftRound Ideal.roundHalfEven x)) := by
  have h7 : Ideal.liftRound Ideal.roundHalfEven 7 = 7 := liftRound_int 7
  have hm : Ideal.liftRound Ideal.roundHalfEven (-7) = -7 := by
    have h := liftRound_int (-7)
    have e : (((-7 : ℤ) : ℝ) : EReal) = -7 := by norm_num; rfl
    rwa [e] at h
  rw [liftRound_mono.map_min, liftRound_mono.map_max, h7, hm]

/-! ## The scale -/

theorem div_seven_ne_zero {x : EReal} (h : x ≠ 0) : Ideal.div x 7 ≠ 0 := by
  have h7 : (7 : EReal) ≠ 0 := by norm_num
  unfold Ideal.div
  rw [if_neg h7]
  refine mul_ne_zero h ?_
  have e : (7 : EReal) = ((7 : ℝ) : EReal) := rfl
  rw [e, ← EReal.coe_inv]
  exact_mod_cast (by norm_num : (7 : ℝ)⁻¹ ≠ 0)

/-- A scale is never zero. -/
theorem step_ne_zero (x : EReal) : step x ≠ 0 := by
  unfold step
  split_ifs with h
  · exact one_ne_zero
  · exact div_seven_ne_zero h

/-- Multiplying by the reciprocal of a scale is dividing by it. -/
theorem mul_div_one (v s : EReal) (h : s ≠ 0) : v * Ideal.div 1 s = Ideal.div v s := by
  unfold Ideal.div
  rw [if_neg h, if_neg h, one_mul]

/-! ## Halving the low-rank product -/

theorem half_mul_add (x y : EReal) : ((1 / 2 : ℝ) : EReal) * (x + y) = ((1 / 2 : ℝ) : EReal) * x + ((1 / 2 : ℝ) : EReal) * y :=
  EReal.left_distrib_of_nonneg_of_ne_top (by exact_mod_cast (by norm_num : (0 : ℝ) ≤ 1 / 2)) (EReal.coe_ne_top _) x y

theorem half_mul_sum {ι : Type} (t : Finset ι) (f : ι → EReal) :
    ((1 / 2 : ℝ) : EReal) * ∑ k ∈ t, f k = ∑ k ∈ t, ((1 / 2 : ℝ) : EReal) * f k := by
  classical
  induction t using Finset.induction_on with
  | empty => simp
  | insert a t ha ih => rw [Finset.sum_insert ha, Finset.sum_insert ha, half_mul_add, ih]

/-- Halving one factor before the product is halving the product. -/
theorem sum_mul_half {ι : Type} [Fintype ι] (a b : ι → EReal) :
    ∑ k, a k * (b k * ((1 / 2 : ℝ) : EReal)) = ((1 / 2 : ℝ) : EReal) * ∑ k, a k * b k := by
  rw [half_mul_sum]
  exact Finset.sum_congr rfl fun k _ => by rw [← mul_assoc, mul_comm]

/-! ## The largest absolute value -/

/-- The largest of 128 numbers is the larger of the largest at an even place and the largest at an odd place. -/
theorem fold_max_pairs (f : Fin 128 → EReal) :
    max (Finset.univ.fold max ⊥ fun p : Fin 64 => f ⟨2 * p.val, by omega⟩) (Finset.univ.fold max ⊥ fun p : Fin 64 => f ⟨2 * p.val + 1, by omega⟩)
      = Finset.univ.fold max ⊥ f := by
  show (Finset.univ.sup fun p : Fin 64 => f ⟨2 * p.val, by omega⟩) ⊔ (Finset.univ.sup fun p : Fin 64 => f ⟨2 * p.val + 1, by omega⟩)
    = Finset.univ.sup f
  apply le_antisymm
  · exact sup_le (Finset.sup_le fun p _ => Finset.le_sup (f := f) (Finset.mem_univ _))
      (Finset.sup_le fun p _ => Finset.le_sup (f := f) (Finset.mem_univ _))
  · refine Finset.sup_le fun r _ => ?_
    rcases Nat.mod_two_eq_zero_or_one r.val with h | h
    · have e : r = ⟨2 * (r.val / 2), by omega⟩ := Fin.ext (by show r.val = 2 * (r.val / 2); omega)
      rw [e]
      exact le_sup_of_le_left (Finset.le_sup (f := fun p : Fin 64 => f ⟨2 * p.val, by omega⟩) (Finset.mem_univ ⟨r.val / 2, by omega⟩))
    · have e : r = ⟨2 * (r.val / 2) + 1, by omega⟩ := Fin.ext (by show r.val = 2 * (r.val / 2) + 1; omega)
      rw [e]
      exact le_sup_of_le_right (Finset.le_sup (f := fun p : Fin 64 => f ⟨2 * p.val + 1, by omega⟩) (Finset.mem_univ ⟨r.val / 2, by omega⟩))

/-! ## Words -/

theorem fifteen_high : ∀ i : Fin 32, 4 ≤ i.val → (15#32).getLsbD i.val = false := by decide

/-- The low four bits of a word cut to a narrower width of at least four bits and widened again are the word's own. -/
theorem low4_cut (n : ℕ) (hn : 4 ≤ n) (p : BitVec 32) : (p.setWidth n).signExtend 32 &&& 15#32 = p &&& 15#32 := by
  ext i hi
  by_cases h : i < 4
  · simp [BitVec.getElem_signExtend, show i < n by omega, BitVec.getLsbD_eq_getElem hi]
  · have : (15#32)[i] = false := (BitVec.getLsbD_eq_getElem hi).symm.trans (fifteen_high ⟨i, hi⟩ (Nat.not_lt.mp h))
    simp [this]

/-- Packing reads four bits of each word: cutting the words first, to at least four bits, changes nothing. -/
theorem pack_cut (n : ℕ) (hn : 4 ≤ n) (p q : BitVec 32) :
    pack ((p.setWidth n).signExtend 32) ((q.setWidth n).signExtend 32) = pack p q := by
  unfold pack
  rw [low4_cut n hn, low4_cut n hn]

/-- The kernel's way to a half of a byte: shift it down by four times the half, cut to four bits, read with its sign. -/
theorem nibble_of_shift (h : ℕ) (hh : h < 2) (c : BitVec 8) :
    FloatOps.sitofp (F := Ideal) .bf16 (BitVec.setWidth 4 (IntOp.shrsi .vector (c.setWidth 32) (IntOp.muli (BitVec.ofNat 32 h) 4#32)))
      = nibble h c := by
  interval_cases h <;> rfl

/-- The reference's way to the low half: mask it, and take sixteen off from eight up. -/
theorem nibble_low (c : BitVec 8) :
    ((Scalar.select (IntOp.cmpi .sge (IntOp.andi (c.setWidth 32) 15#32) 8#32) (IntOp.subi (IntOp.andi (c.setWidth 32) 15#32) 16#32)
      (IntOp.andi (c.setWidth 32) 15#32) : BitVec 32).toInt : ℝ) = nibble 0 c := by
  have h : ∀ c : BitVec 8, (Scalar.select (IntOp.cmpi .sge (IntOp.andi (c.setWidth 32) 15#32) 8#32) (IntOp.subi (IntOp.andi (c.setWidth 32) 15#32) 16#32)
      (IntOp.andi (c.setWidth 32) 15#32) : BitVec 32).toInt
      = (((c.setWidth 32).sshiftRight (4 * 0)).setWidth 4).toInt := by decide +kernel
  exact congrArg (fun z : ℤ => ((z : ℝ) : EReal)) (h c)

/-- The reference's way to the high half: shift it down, and take sixteen off from eight up. -/
theorem nibble_high (c : BitVec 8) :
    ((Scalar.select (IntOp.cmpi .sge (IntOp.shrsi .host (c.setWidth 32) 4#32) 8#32) (IntOp.subi (IntOp.shrsi .host (c.setWidth 32) 4#32) 16#32)
      (IntOp.shrsi .host (c.setWidth 32) 4#32) : BitVec 32).toInt : ℝ) = nibble 1 c := by
  have h : ∀ c : BitVec 8, (Scalar.select (IntOp.cmpi .sge (IntOp.shrsi .host (c.setWidth 32) 4#32) 8#32) (IntOp.subi (IntOp.shrsi .host (c.setWidth 32) 4#32) 16#32)
      (IntOp.shrsi .host (c.setWidth 32) 4#32) : BitVec 32).toInt
      = (((c.setWidth 32).sshiftRight (4 * 1)).setWidth 4).toInt := by decide +kernel
  exact congrArg (fun z : ℤ => ((z : ℝ) : EReal)) (h c)

end Cert.Column

end
-- ==== Proof.Group.lean ====
/-
  What the kernel computes for ONE group of 128 rows of a block of 256 columns. The kernel's loop body is written out
  for eight groups; the three functions below are that text once, with the group's place in the octet as a parameter.
-/
module

public import proofs.«01_k».proof.Proof.Numbers
public import proofs.«01_k».proof.Proof.Gen.KernelIdeal.Skeleton

@[expose] public section

set_option maxRecDepth 16384

noncomputable section

namespace Cert.KernelIdeal.Group

open Cert.KernelIdeal Cert.KernelIdeal.Gen Idealize.ShloMosaic

/-- The merged weights of group `j` of the octet, as the kernel prints them: `b` is the right factor's block already
    halved, `s` the octet's scales, `c` the group's packed bytes, `a` its rows of the left factor. -/
def weights (j : ℕ) (hj : S8x256.Slices ![j, 0] S1x256) (b : FVec Ideal S64x256 .bf16) (s : FVec Ideal S8x256 .f32)
    (c : Vec Ideal S1x64x256 .i8) (a : Vec Ideal S1x128x64 .bf16) : FVec Ideal S128x256 .f32 :=
  addf
    (mulf
      (extf .f32 (sitofp .bf16 (trunci 4 (shapeCast S128x256
        (shrsi
          (broadcastTo S64x2x256 (shapeCast S64x1x256 (shapeCast S64x1x256 (extui 32 (shapeCast S64x256 c
            shapeCasts_S1x64x256_S64x256) natLt_8_32) shapeCasts_S64x256_S64x1x256) shapeCasts_S64x1x256_S64x1x256)
            broadcasts_S64x1x256_S64x2x256)
          (muli (iota .tc S64x2x256 32 [1] iota_S64x2x256_d1_w32) (broadcast S64x2x256 4#32)))
        shapeCasts_S64x2x256_S128x256) natLt_4_32)) bitsLt_bf16_f32)
      (broadcastTo S128x256 (extractStridedSlice S1x256 ![j, 0] s hj) broadcasts_S1x256_S128x256))
    (matmul dot_S128x64_S64x256_S128x256_1_0_0_1_n_n none
      (shapeCast S128x64 a shapeCasts_S1x128x64_S128x64 : FVec Ideal S128x64 .bf16) b
      (constant S128x256 .f32 0x00000000#32))

/-- The group's scales, one per column, from its merged weights. -/
def scales (v : FVec Ideal S128x256 .f32) : FVec Ideal S1x256 .f32 :=
  have amax : FVec Ideal S1x256 .f32 := shapeCast S1x256
    (multiReduction .maximumf [0] S256 (absf v) 0xFF800000#32 reduces_S128x256_S256 (.inl rfl) rfl) shapeCasts_S256_S1x256
  extf .f32 (truncf .bf16 (select (cmpf .oeq amax (broadcast S1x256 (Scalar.ofBits .f32 0x00000000#32)))
    (broadcast S1x256 (Scalar.ofBits .f32 0x3F800000#32))
    (divf amax (broadcast S1x256 (Scalar.ofBits .f32 0x40E00000#32)))) bitsLt_bf16_f32) bitsLt_bf16_f32

/-- The group's integers, from its merged weights and its scales. -/
def levels (v : FVec Ideal S128x256 .f32) (s : FVec Ideal S1x256 .f32) : IVec S128x256 32 :=
  fptosi 32 (roundeven (minimumf (broadcast S128x256 (Scalar.ofBits .f32 0x40E00000#32))
    (maximumf (broadcast S128x256 (Scalar.ofBits .f32 0xC0E00000#32))
      (mulf v (broadcastTo S128x256 (divf (broadcast S1x256 (Scalar.ofBits .f32 0x3F800000#32)) s)
        broadcasts_S1x256_S128x256)))))

/-- The group's bytes: the integers cut to four bits, two rows to a byte. -/
def bytes (q : IVec S128x256 32) : IVec S1x64x256 8 :=
  have w : IVec S64x2x256 32 := shapeCast S64x2x256 (extsi 32 (trunci 4 q natLt_4_32) natLt_4_32) shapeCasts_S128x256_S64x2x256
  shapeCast S1x64x256 (trunci 8 (ori
    (andi (shapeCast S64x256 (extractStridedSlice S64x1x256 ![0, 0, 0] w slices_S64x2x256_o0_0_0_S64x1x256)
      shapeCasts_S64x1x256_S64x256) (broadcast S64x256 15#32))
    (shli (andi (shapeCast S64x256 (extractStridedSlice S64x1x256 ![0, 1, 0] w slices_S64x2x256_o0_1_0_S64x1x256)
      shapeCasts_S64x1x256_S64x256) (broadcast S64x256 15#32)) (broadcast S64x256 4#32))) natLt_8_32)
    shapeCasts_S64x256_S1x64x256

/-! ## Each of them at an element -/

theorem scales_apply (v : FVec Ideal S128x256 .f32) (l : Fin 256) :
    scales v (ix2 0 l) = Column.step (Column.peak fun r => v (ix2 r l)) := by
  pointwise [scales]
  rw [Column.ofBits_neg_inf, Column.ofBits_seven]
  rfl

theorem levels_apply (v : FVec Ideal S128x256 .f32) (s : FVec Ideal S1x256 .f32) (r : Fin 128) (l : Fin 256)
    (hs : s (ix2 0 l) ≠ 0) : levels v s (ix2 r l) = Column.level (v (ix2 r l)) (s (ix2 0 l)) := by
  pointwise [levels]
  rw [Column.ofBits_seven, Column.ofBits_neg_seven, Column.mul_div_one _ _ hs, Column.round_clip]
  rfl

theorem bytes_apply (q : IVec S128x256 32) (p : Fin 64) (l : Fin 256) :
    bytes q (ix3 0 p l) = Column.pack (q (ix2 ⟨2 * p.val, by omega⟩ l)) (q (ix2 ⟨2 * p.val + 1, by omega⟩ l)) := by
  pointwise [bytes]
  simp only [Nat.mul_comm p.val 2]
  exact Column.pack_cut 4 le_rfl _ _

/-- A merged weight of the group, from the blocks the kernel loads: the halved right factor gives half the product. -/
theorem weights_apply (j : ℕ) (hj : S8x256.Slices ![j, 0] S1x256) (hj8 : j < 8) (b : Vec Ideal S1x64x256 .bf16)
    (s : Vec Ideal S1x8x256 .bf16) (c : Vec Ideal S1x64x256 .i8) (a : Vec Ideal S1x128x64 .bf16) (r : Fin 128) (l : Fin 256) :
    weights j hj (k0_pay1 b) (k0_pay4 s) c a (ix2 r l)
      = Column.weight (fun p => c (ix3 0 p l)) (s (ix3 0 ⟨j, hj8⟩ l)) (fun r k => a (ix3 0 r k)) (fun k => b (ix3 0 k l)) r := by
  pointwise [weights, k0_pay1, k0_pay4]
  rw [Column.nibble_of_shift _ (Nat.mod_lt _ (by decide)), Column.ofBits_half_bf16]
  rw [Column.sum_mul_half (fun k => a (ix3 0 r k)) (fun k => b (ix3 0 k l))]
  rfl

/-- The scale of a column of the group. -/
theorem scale_group (j : ℕ) (hj : S8x256.Slices ![j, 0] S1x256) (hj8 : j < 8) (b : Vec Ideal S1x64x256 .bf16)
    (s : Vec Ideal S1x8x256 .bf16) (c : Vec Ideal S1x64x256 .i8) (a : Vec Ideal S1x128x64 .bf16) (l : Fin 256) :
    scales (weights j hj (k0_pay1 b) (k0_pay4 s) c a) (ix2 0 l)
      = Column.scaleOut (fun p => c (ix3 0 p l)) (s (ix3 0 ⟨j, hj8⟩ l)) (fun r k => a (ix3 0 r k)) (fun k => b (ix3 0 k l)) := by
  rw [scales_apply]
  simp only [weights_apply j hj hj8]
  rfl

/-- A byte of a column of the group. -/
theorem byte_group (j : ℕ) (hj : S8x256.Slices ![j, 0] S1x256) (hj8 : j < 8) (b : Vec Ideal S1x64x256 .bf16)
    (s : Vec Ideal S1x8x256 .bf16) (c : Vec Ideal S1x64x256 .i8) (a : Vec Ideal S1x128x64 .bf16) (p : Fin 64) (l : Fin 256) :
    bytes (levels (weights j hj (k0_pay1 b) (k0_pay4 s) c a) (scales (weights j hj (k0_pay1 b) (k0_pay4 s) c a))) (ix3 0 p l)
      = Column.codeOut (fun p => c (ix3 0 p l)) (s (ix3 0 ⟨j, hj8⟩ l)) (fun r k => a (ix3 0 r k)) (fun k => b (ix3 0 k l)) p := by
  have hs := scale_group j hj hj8 b s c a l
  have h0 : scales (weights j hj (k0_pay1 b) (k0_pay4 s) c a) (ix2 0 l) ≠ 0 := by
    rw [hs]; exact Column.step_ne_zero _
  rw [bytes_apply, levels_apply _ _ _ _ h0, levels_apply _ _ _ _ h0, hs]
  simp only [weights_apply j hj hj8]
  rfl

end Cert.KernelIdeal.Group

end
-- ==== Proof.Trip.lean ====
/-
  What ONE trip of the kernel's loop stores: trip `k` handles the groups `8 k … 8 k + 7` of a block of 256 columns, a
  store of 64 byte rows for each group and one store of the eight scale rows. Every store agrees with one function of the
  block's place, the one stated in Column.lean.
-/
module

public import proofs.«01_k».proof.Proof.Group
public import proofs.«01_k».proof.Proof.Gen.KernelIdeal.Value

@[expose] public section

set_option maxRecDepth 16384

noncomputable section

namespace Cert.KernelIdeal.Trip

open Cert.KernelIdeal Cert.KernelIdeal.Gen Idealize.ShloMosaic Idealize.ShloMosaic.TcCoe Idealize.SL.Sem

/-- Where a box of whole rows, `M` of them from row `o`, puts its element `(0, p, l)`. -/
theorem emb_rows {N M n : ℕ} {off : Fin 3 → ℕ} (o : ℕ) (hoff : off = ![0, o, 0])
    (inb : ∀ a, off a + (![1, M, n] : Fin 3 → ℕ) a ≤ (⟨3, ![1, N, n]⟩ : Shape).size a) (p : Fin M) (l : Fin n) (h : o + p.val < N) :
    (Rect.unit (s := ⟨3, ![1, N, n]⟩) off ![1, M, n] inb).emb (ix3 0 p l) = ix3 0 ⟨o + p.val, h⟩ l := by
  subst hoff
  funext a
  apply Fin.ext
  match a with
  | ⟨0, _⟩ => rfl
  | ⟨1, _⟩ => show o + 1 * p.val = o + p.val; rw [Nat.one_mul]
  | ⟨2, _⟩ => show 0 + 1 * l.val = l.val; omega

/-- A place of an array with one matrix is a row and a column. -/
theorem eq_zero_row {M n : ℕ} (x : (⟨3, ![1, M, n]⟩ : Shape).Idx) : ∃ (p : Fin M) (l : Fin n), x = ix3 0 p l := by
  have hz : ∀ z : Fin 1, z = 0 := fun _ => Subsingleton.elim _ _
  exact ⟨x 1, x 2, (eq_ix3 x).trans (congrArg (fun z : Fin 1 => ix3 z (x 1 : Fin M) (x 2 : Fin n)) (hz (x 0)))⟩

variable (x0 : Vec Ideal S1x2560x256 .i8) (x1 : Vec Ideal S1x40x256 .bf16) (x2 : Vec Ideal S1x5120x64 .bf16)
  (x3 : Vec Ideal S1x64x256 .bf16)

theorem trips_eq : k0_t1_loop.trips = 5 := by decide +kernel

/-- The octet's scale rows, as the trip loads them. -/
abbrev ldScales (k : Fin k0_t1_loop.trips) : Vec Ideal S1x8x256 .bf16 :=
  View.ld x1 (Rect.unit (s := S1x40x256) (k0_off1 k) S1x8x256.size (k0_off1_inb k))

/-- Group `r`'s byte rows, as the trip loads them. -/
abbrev ldBytes (k : Fin k0_t1_loop.trips) (r : Fin 8) : Vec Ideal S1x64x256 .i8 :=
  View.ld x0 (Rect.unit (s := S1x2560x256) (k0_off2 k (BitVec.ofNat 32 r.val)) S1x64x256.size (k0_off2_inb k r))

/-- Group `r`'s rows of the left factor, as the trip loads them. -/
abbrev ldLeft (k : Fin k0_t1_loop.trips) (r : Fin 8) : Vec Ideal S1x128x64 .bf16 :=
  View.ld x2 (Rect.unit (s := S1x5120x64) (k0_off3 k (BitVec.ofNat 32 r.val)) S1x128x64.size (k0_off3_inb k r))

theorem slices (r : Fin 8) : S8x256.Slices ![r.val, 0] S1x256 := by
  revert r; decide

/-- Group `r`'s merged weights in trip `k`. -/
abbrev weightsOf (k : Fin k0_t1_loop.trips) (r : Fin 8) : FVec Ideal S128x256 .f32 :=
  Group.weights r.val (slices r) (k0_pay1 x3) (k0_pay4 (ldScales x1 k)) (ldBytes x0 k r) (ldLeft x2 k r)

/-- What the trip loads, read in the block. -/
theorem ldScales_apply (k : Fin k0_t1_loop.trips) (r : Fin 8) (l : Fin 256) (h : 8 * k.val + r.val < 40) :
    ldScales x1 k (ix3 0 r l) = x1 (ix3 0 ⟨8 * k.val + r.val, h⟩ l) :=
  congrArg x1 (emb_rows (8 * k.val) (k0_off1_eq k) (k0_off1_inb k) r l h)

theorem ldBytes_apply (k : Fin k0_t1_loop.trips) (r : Fin 8) (p : Fin 64) (l : Fin 256) (h : 64 * (8 * k.val + r.val) + p.val < 2560) :
    ldBytes x0 k r (ix3 0 p l) = x0 (ix3 0 ⟨64 * (8 * k.val + r.val) + p.val, h⟩ l) :=
  congrArg x0 (emb_rows (64 * (8 * k.val + r.val)) ((k0_off2_eq k r).trans (by congr 2; omega)) (k0_off2_inb k r) p l h)

theorem ldLeft_apply (k : Fin k0_t1_loop.trips) (r : Fin 8) (q : Fin 128) (l : Fin 64) (h : 128 * (8 * k.val + r.val) + q.val < 5120) :
    ldLeft x2 k r (ix3 0 q l) = x2 (ix3 0 ⟨128 * (8 * k.val + r.val) + q.val, h⟩ l) :=
  congrArg x2 (emb_rows (128 * (8 * k.val + r.val)) ((k0_off3_eq k r).trans (by congr 2; omega)) (k0_off3_inb k r) q l h)

/-- The scale row of group `r` of trip `k` is the block's scale row of group `8 k + r`. -/
theorem scale_eq (k : Fin k0_t1_loop.trips) (r : Fin 8) (l : Fin 256) (h : 8 * k.val + r.val < 40) :
    Group.scales (weightsOf x0 x1 x2 x3 k r) (ix2 0 l) = Column.scaleAt x0 x1 x2 x3 0 ⟨8 * k.val + r.val, h⟩ l := by
  rw [Group.scale_group r.val (slices r) r.isLt, Column.scaleAt, ldScales_apply x1 k r l h]
  congr 1
  · funext p; exact ldBytes_apply x0 k r p l _
  · funext q j; exact ldLeft_apply x2 k r q j _

/-- The byte rows of group `r` of trip `k` are the block's byte rows of group `8 k + r`. -/
theorem byte_eq (k : Fin k0_t1_loop.trips) (r : Fin 8) (p : Fin 64) (l : Fin 256) (h : 8 * k.val + r.val < 40) :
    Group.bytes (Group.levels (weightsOf x0 x1 x2 x3 k r) (Group.scales (weightsOf x0 x1 x2 x3 k r))) (ix3 0 p l)
      = Column.codeAt x0 x1 x2 x3 0 ⟨8 * k.val + r.val, h⟩ p l := by
  rw [Group.byte_group r.val (slices r) r.isLt, Column.codeAt, ldScales_apply x1 k r l h]
  congr 1
  · funext p; exact ldBytes_apply x0 k r p l _
  · funext q j; exact ldLeft_apply x2 k r q j _

/-- The store of group `r` in trip `k` holds the block's new bytes, each at its place. -/
theorem bytes_piece (k : Fin k0_t1_loop.trips) (r : Fin 8) (x : S1x64x256.Idx) :
    Group.bytes (Group.levels (weightsOf x0 x1 x2 x3 k r) (Group.scales (weightsOf x0 x1 x2 x3 k r))) x
      = Column.codesOut x0 x1 x2 x3
          ((Rect.unit (s := S1x2560x256) (k0_off2 k (BitVec.ofNat 32 r.val)) S1x64x256.size (k0_off2_inb k r)).emb x) := by
  have hk : k.val < 5 := trips_eq ▸ k.isLt
  obtain ⟨p, l, rfl⟩ := eq_zero_row x
  have hp : 64 * (8 * k.val + r.val) + p.val < 2560 := by omega
  rw [emb_rows (64 * (8 * k.val + r.val)) ((k0_off2_eq k r).trans (by congr 2; omega)) (k0_off2_inb k r) p l hp,
    byte_eq x0 x1 x2 x3 k r p l (by omega)]
  unfold Column.codesOut
  congr 1
  · apply Fin.ext; show 8 * k.val + r.val = (64 * (8 * k.val + r.val) + p.val) / 64; omega
  · apply Fin.ext; show p.val = (64 * (8 * k.val + r.val) + p.val) % 64; omega

/-- The stacked scale rows: row `r` of the store is the `r`-th row. -/
theorem scale_rows (s : Fin 8 → FVec Ideal S1x256 .f32) (r : Fin 8) (l : Fin 256) :
    k0_pay3 (s 0) (s 1) (s 2) (s 3) (s 4) (s 5) (s 6) (s 7) (ix3 0 r l) = s r (ix2 0 l) := by
  pointwise [k0_pay3]
  obtain ⟨r, hr⟩ := r
  interval_cases r <;> rfl

/-- The store of the scale rows in trip `k` holds the block's new scales, each at its place. -/
theorem scales_piece (k : Fin k0_t1_loop.trips) (x : S1x8x256.Idx) :
    (k0_pay3 (Group.scales (weightsOf x0 x1 x2 x3 k 0)) (Group.scales (weightsOf x0 x1 x2 x3 k 1))
        (Group.scales (weightsOf x0 x1 x2 x3 k 2)) (Group.scales (weightsOf x0 x1 x2 x3 k 3))
        (Group.scales (weightsOf x0 x1 x2 x3 k 4)) (Group.scales (weightsOf x0 x1 x2 x3 k 5))
        (Group.scales (weightsOf x0 x1 x2 x3 k 6)) (Group.scales (weightsOf x0 x1 x2 x3 k 7)) : FVec Ideal S1x8x256 .bf16) x
      = Column.scalesOut x0 x1 x2 x3 ((Rect.unit (s := S1x40x256) (k0_off1 k) S1x8x256.size (k0_off1_inb k)).emb x) := by
  have hk : k.val < 5 := trips_eq ▸ k.isLt
  obtain ⟨r, l, rfl⟩ := eq_zero_row x
  have h : 8 * k.val + r.val < 40 := by omega
  rw [emb_rows (8 * k.val) (k0_off1_eq k) (k0_off1_inb k) r l h,
    scale_rows (fun r => Group.scales (weightsOf x0 x1 x2 x3 k r)) r l]
  exact scale_eq x0 x1 x2 x3 k r l h

section Stores

variable (c : Dev nD) (i : grid0.Coords) (arg2 : Memref sig .tc .vmem S1x2560x256 .i8) (harg2 : arg2.IsWhole)
  (arg3 : Memref sig .tc .vmem S1x40x256 .bf16) (harg3 : arg3.IsWhole) (arg4 : Memref sig .tc .vmem S1x5120x64 .bf16)
  (harg4 : arg4.IsWhole) (arg5 : Memref sig .tc .vmem S1x64x256 .bf16) (harg5 : arg5.IsWhole)
  (arg6 : Memref sig .tc .vmem S1x2560x256 .i8) (harg6 : arg6.IsWhole) (arg7 : Memref sig .tc .vmem S1x40x256 .bf16)
  (harg7 : arg7.IsWhole)

/-- Every store of trip `k` into the byte block holds the block's new bytes. -/
theorem trip_bytes (k : Fin k0_t1_loop.trips) :
    ∀ p ∈ (tripL_k0_t1 (F := Ideal) Variants.none c none i arg2 harg2 arg3 harg3 arg4 harg4 arg5 harg5 arg6 harg6 arg7 harg7 x3
        (harg2.unread x0) (harg3.unread x1) (harg4.unread x2) k).1,
      ∀ x : p.1.shape.Idx, p.2 x = Column.codesOut x0 x1 x2 x3 (p.1.emb x) := by
  dsimp only [tripL_k0_t1]
  unfold trip_k0_t1
  dsimp only
  sl_unfold_words
  simp only [View.readAt_eq_ld, harg2.read_unread, harg3.read_unread, harg4.read_unread]
  simp only [List.forall_mem_cons, List.not_mem_nil, false_imp_iff, implies_true, and_true]
  exact ⟨bytes_piece x0 x1 x2 x3 k 7, bytes_piece x0 x1 x2 x3 k 6, bytes_piece x0 x1 x2 x3 k 5, bytes_piece x0 x1 x2 x3 k 4,
    bytes_piece x0 x1 x2 x3 k 3, bytes_piece x0 x1 x2 x3 k 2, bytes_piece x0 x1 x2 x3 k 1, bytes_piece x0 x1 x2 x3 k 0⟩

/-- Every store of trip `k` into the scale block holds the block's new scales. -/
theorem trip_scales (k : Fin k0_t1_loop.trips) :
    ∀ p ∈ (tripL_k0_t1 (F := Ideal) Variants.none c none i arg2 harg2 arg3 harg3 arg4 harg4 arg5 harg5 arg6 harg6 arg7 harg7 x3
        (harg2.unread x0) (harg3.unread x1) (harg4.unread x2) k).2,
      ∀ x : p.1.shape.Idx, p.2 x = Column.scalesOut x0 x1 x2 x3 (p.1.emb x) := by
  dsimp only [tripL_k0_t1]
  unfold trip_k0_t1
  dsimp only
  sl_unfold_words
  simp only [View.readAt_eq_ld, harg2.read_unread, harg3.read_unread, harg4.read_unread]
  simp only [List.forall_mem_cons, List.not_mem_nil, false_imp_iff, implies_true, and_true]
  exact scales_piece x0 x1 x2 x3 k

end Stores

end Cert.KernelIdeal.Trip

end
-- ==== Proof.Block.lean ====
/-
  What the kernel leaves in its two output blocks: the stores of all five trips of its loop, read back. Each store agrees
  with the block's function (Trip.lean) and together they cover the block, so the block holds that function.
-/
module

public import proofs.«01_k».proof.Proof.Trip

@[expose] public section

set_option maxRecDepth 16384

noncomputable section

namespace Cert.KernelIdeal.Block

open Cert.KernelIdeal Cert.KernelIdeal.Gen Idealize.ShloMosaic Idealize.ShloMosaic.TcCoe Idealize.SL.Sem

variable (x0 : Vec Ideal S1x2560x256 .i8) (x1 : Vec Ideal S1x40x256 .bf16) (x2 : Vec Ideal S1x5120x64 .bf16)
  (x3 : Vec Ideal S1x64x256 .bf16)
  (c : Dev nD) (i : grid0.Coords) (arg2 : Memref sig .tc .vmem S1x2560x256 .i8) (harg2 : arg2.IsWhole)
  (arg3 : Memref sig .tc .vmem S1x40x256 .bf16) (harg3 : arg3.IsWhole) (arg4 : Memref sig .tc .vmem S1x5120x64 .bf16)
  (harg4 : arg4.IsWhole) (arg5 : Memref sig .tc .vmem S1x64x256 .bf16) (harg5 : arg5.IsWhole)
  (arg6 : Memref sig .tc .vmem S1x2560x256 .i8) (harg6 : arg6.IsWhole) (arg7 : Memref sig .tc .vmem S1x40x256 .bf16)
  (harg7 : arg7.IsWhole)

/-- Every store of the first `n` trips holds the block's new bytes and new scales. -/
theorem trips_stores (n : ℕ) (hn : n ≤ k0_t1_loop.trips) :
    (∀ p ∈ (pb_k0_t1 (F := Ideal) Variants.none c none i arg2 harg2 arg3 harg3 arg4 harg4 arg5 harg5 arg6 harg6 arg7 harg7 x3
        (harg2.unread x0) (harg3.unread x1) (harg4.unread x2) n).1,
      ∀ x : p.1.shape.Idx, p.2 x = Column.codesOut x0 x1 x2 x3 (p.1.emb x))
    ∧ (∀ p ∈ (pb_k0_t1 (F := Ideal) Variants.none c none i arg2 harg2 arg3 harg3 arg4 harg4 arg5 harg5 arg6 harg6 arg7 harg7 x3
        (harg2.unread x0) (harg3.unread x1) (harg4.unread x2) n).2,
      ∀ x : p.1.shape.Idx, p.2 x = Column.scalesOut x0 x1 x2 x3 (p.1.emb x)) := by
  induction n with
  | zero => exact ⟨fun p hp => absurd hp List.not_mem_nil, fun p hp => absurd hp List.not_mem_nil⟩
  | succ n ih =>
    have ih := ih (Nat.le_of_succ_le hn)
    have e := pb_k0_t1_succ (F := Ideal) Variants.none c none i arg2 harg2 arg3 harg3 arg4 harg4 arg5 harg5 arg6 harg6 arg7 harg7 x3
        (harg2.unread x0) (harg3.unread x1) (harg4.unread x2) ⟨n, hn⟩
    dsimp only at e
    rw [e]
    refine ⟨fun p hp => ?_, fun p hp => ?_⟩
    · rcases List.mem_append.1 hp with h | h
      · exact Trip.trip_bytes x0 x1 x2 x3 c i arg2 harg2 arg3 harg3 arg4 harg4 arg5 harg5 arg6 harg6 arg7 harg7 ⟨n, hn⟩ p h
      · exact ih.1 p h
    · rcases List.mem_append.1 hp with h | h
      · exact Trip.trip_scales x0 x1 x2 x3 c i arg2 harg2 arg3 harg3 arg4 harg4 arg5 harg5 arg6 harg6 arg7 harg7 ⟨n, hn⟩ p h
      · exact ih.2 p h

/-- The right factor, loaded once before the loop, is the whole block. -/
theorem load_right : View.readAt (Elt Ideal) arg5.view
    (Rect.unit (s := S1x64x256) ![0, 0, 0] S1x64x256.size inb_S1x64x256_S1x64x256_0_0_0).toLoadRect (harg5.unread x3) = x3 := by
  rw [View.readAt_eq_ld, harg5.read_unread]
  exact View.ld_unit_zero (S := S1x64x256) (funext fun a => by fin_cases a <;> rfl) _ x3

/-- The byte block after the body is the block's new bytes. -/
theorem out_bytes : out0_A_4 c i arg2 harg2 arg3 harg3 arg4 harg4 arg5 harg5 arg6 harg6 arg7 harg7 x0 x1 x2 x3
    = Column.codesOut x0 x1 x2 x3 := by
  unfold out0_A_4
  rw [View.read_writes_eq_canon _ _ _ (cover0_A_4 c i arg2 harg2 arg3 harg3 arg4 harg4 arg5 harg5 arg6 harg6 arg7 harg7 x0 x1 x2 x3)]
  funext y
  refine View.canon_apply_of_pieces _ _ ?_ y (cover0_A_4 c i arg2 harg2 arg3 harg3 arg4 harg4 arg5 harg5 arg6 harg6 arg7 harg7 x0 x1 x2 x3 y)
  unfold kernelRun0_A
  dsimp only
  rw [load_right]
  exact (trips_stores x0 x1 x2 x3 c i arg2 harg2 arg3 harg3 arg4 harg4 arg5 harg5 arg6 harg6 arg7 harg7 _ le_rfl).1

/-- The scale block after the body is the block's new scales. -/
theorem out_scales : out0_A_5 c i arg2 harg2 arg3 harg3 arg4 harg4 arg5 harg5 arg6 harg6 arg7 harg7 x0 x1 x2 x3
    = Column.scalesOut x0 x1 x2 x3 := by
  unfold out0_A_5
  rw [View.read_writes_eq_canon _ _ _ (cover0_A_5 c i arg2 harg2 arg3 harg3 arg4 harg4 arg5 harg5 arg6 harg6 arg7 harg7 x0 x1 x2 x3)]
  funext y
  refine View.canon_apply_of_pieces _ _ ?_ y (cover0_A_5 c i arg2 harg2 arg3 harg3 arg4 harg4 arg5 harg5 arg6 harg6 arg7 harg7 x0 x1 x2 x3 y)
  unfold kernelRun0_A
  dsimp only
  rw [load_right]
  exact (trips_stores x0 x1 x2 x3 c i arg2 harg2 arg3 harg3 arg4 harg4 arg5 harg5 arg6 harg6 arg7 harg7 _ le_rfl).2

end Cert.KernelIdeal.Block

end
-- ==== Proof.Array.lean ====
/-
  What the kernel leaves in its two result arrays. Grid point `t` works on matrix `t / 54`, columns
  `256 (t % 54) … 256 (t % 54) + 255`: it reads that block of each argument, leaves the block's new bytes and scales
  (Block.lean), and writes them back to the same place. The blocks cover the arrays, so the arrays hold the new bytes and
  the new scales of the arguments.
-/
module

public import proofs.«01_k».proof.Proof.Block

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The matrix grid point `t` works on. -/
def mat (t : Fin cfg0.N) : Fin 3 := ⟨t.val / 54, by have h : t.val < 162 := lt_of_lt_of_eq t.isLt N_0; omega⟩

/-- The array's column of column `l` of point `t`'s block. -/
def col (t : Fin cfg0.N) (l : Fin 256) : Fin 13824 := ⟨256 * (t.val % 54) + l.val, by omega⟩

/-- The place of each block, in blocks: matrix and column block of the point, except the left factor's. -/
theorem idx0 : ∀ t : Fin cfg0.N, win0_0.index t = ![t.val / 54, 0, t.val % 54] :=
  (by decide +kernel : ∀ t : Fin grid0.N, win0_0.index t = ![t.val / 54, 0, t.val % 54])
theorem idx1 : ∀ t : Fin cfg0.N, win0_1.index t = ![t.val / 54, 0, t.val % 54] :=
  (by decide +kernel : ∀ t : Fin grid0.N, win0_1.index t = ![t.val / 54, 0, t.val % 54])
theorem idx2 : ∀ t : Fin cfg0.N, win0_2.index t = ![t.val / 54, 0, 0] :=
  (by decide +kernel : ∀ t : Fin grid0.N, win0_2.index t = ![t.val / 54, 0, 0])
theorem idx3 : ∀ t : Fin cfg0.N, win0_3.index t = ![t.val / 54, 0, t.val % 54] :=
  (by decide +kernel : ∀ t : Fin grid0.N, win0_3.index t = ![t.val / 54, 0, t.val % 54])
theorem idx4 : ∀ t : Fin cfg0.N, win0_4.index t = ![t.val / 54, 0, t.val % 54] :=
  (by decide +kernel : ∀ t : Fin grid0.N, win0_4.index t = ![t.val / 54, 0, t.val % 54])
theorem idx5 : ∀ t : Fin cfg0.N, win0_5.index t = ![t.val / 54, 0, t.val % 54] :=
  (by decide +kernel : ∀ t : Fin grid0.N, win0_5.index t = ![t.val / 54, 0, t.val % 54])

/-- An array index whose coordinates are a block's place plus the coordinates in the block. -/
theorem place {N n B w D : ℕ} (t : Fin cfg0.N) (idx : Fin 3 → ℕ) (j : (⟨3, ![B, N, n]⟩ : Shape).Idx) (b : Fin B) (p : Fin N) (l : Fin w)
    (q : Fin n) (hidx : idx = ![t.val / 54, 0, D]) (hb : b.val = t.val / 54) (hq : q.val = w * D + l.val)
    (h0 : (j 0 : ℕ) = idx 0 * 1 + 1 * 0) (h1 : (j 1 : ℕ) = idx 1 * N + 1 * p.val) (h2 : (j 2 : ℕ) = idx 2 * w + 1 * l.val) :
    j = ix3 b p q := by
  subst hidx
  funext a
  apply Fin.ext
  match a with
  | ⟨0, _⟩ => exact h0.trans (by show t.val / 54 * 1 + 1 * 0 = b.val; omega)
  | ⟨1, _⟩ => exact h1.trans (by show 0 * N + 1 * p.val = p.val; omega)
  | ⟨2, _⟩ => exact h2.trans (by show D * w + 1 * l.val = q.val; rw [hq, Nat.mul_comm D w]; omega)

/-- What each input block holds. -/
theorem iblk0 (c : Dev nD) (t : Fin cfg0.N) (p : Fin 2560) (l : Fin 256) :
    (iblk m c 0 t : Vec Ideal S1x2560x256 .i8) (ix3 0 p l) = m (c.tc.loc main_arg0) (ix3 (mat t) p (col t l)) := by
  unfold iblk
  rw [View.read_apply]
  show V m c main_arg0 _ = m (c.tc.loc main_arg0) _
  unfold V
  exact congrArg _ (place t _ _ _ p l _ (idx0 t) rfl rfl rfl rfl rfl)
theorem iblk1 (c : Dev nD) (t : Fin cfg0.N) (p : Fin 40) (l : Fin 256) :
    (iblk m c 1 t : Vec Ideal S1x40x256 .bf16) (ix3 0 p l) = m (c.tc.loc main_arg1) (ix3 (mat t) p (col t l)) := by
  unfold iblk
  rw [View.read_apply]
  show V m c main_arg1 _ = m (c.tc.loc main_arg1) _
  unfold V
  exact congrArg _ (place t _ _ _ p l _ (idx1 t) rfl rfl rfl rfl rfl)
theorem iblk2 (c : Dev nD) (t : Fin cfg0.N) (p : Fin 5120) (l : Fin 64) :
    (iblk m c 2 t : Vec Ideal S1x5120x64 .bf16) (ix3 0 p l) = m (c.tc.loc main_arg2) (ix3 (mat t) p l) := by
  unfold iblk
  rw [View.read_apply]
  show V m c main_arg2 _ = m (c.tc.loc main_arg2) _
  unfold V
  exact congrArg _ (place t _ _ _ p l _ (idx2 t) rfl (by omega) rfl rfl rfl)
theorem iblk3 (c : Dev nD) (t : Fin cfg0.N) (p : Fin 64) (l : Fin 256) :
    (iblk m c 3 t : Vec Ideal S1x64x256 .bf16) (ix3 0 p l) = m (c.tc.loc main_arg3) (ix3 (mat t) p (col t l)) := by
  unfold iblk
  rw [View.read_apply]
  show V m c main_arg3 _ = m (c.tc.loc main_arg3) _
  unfold V
  exact congrArg _ (place t _ _ _ p l _ (idx3 t) rfl rfl rfl rfl rfl)

/-- The new bytes of the arguments. -/
abbrev codes (c : Dev nD) : Buf (Elt Ideal) ((c : Thread nD τ).loc main_v0_0) :=
  Column.codesOut (m (c.tc.loc main_arg0)) (m (c.tc.loc main_arg1)) (m (c.tc.loc main_arg2)) (m (c.tc.loc main_arg3))

/-- The new scales of the arguments. -/
abbrev scales (c : Dev nD) : Buf (Elt Ideal) ((c : Thread nD τ).loc main_v0_1) :=
  Column.scalesOut (m (c.tc.loc main_arg0)) (m (c.tc.loc main_arg1)) (m (c.tc.loc main_arg2)) (m (c.tc.loc main_arg3))

/-- Point `t` writes back its block of the new bytes. -/
theorem flushed_codes (c : Dev nD) (t : Fin cfg0.N) :
    (dats m 0 c).flushed 4 t = ((cfg0.win 4).blk t).view.read (Elt Ideal) (codes m c) := by
  rw [Value.flushed4_A, Block.out_bytes]
  funext j
  rw [View.read_apply]
  obtain ⟨p, l, hj⟩ := Trip.eq_zero_row (M := 2560) (n := 256) j
  subst hj
  refine (Column.codesOut_block (iblk0 m c t) (iblk1 m c t) (iblk2 m c t) (iblk3 m c t) p l).trans ?_
  exact congrArg (codes m c) (place t _ _ _ p l _ (idx4 t) rfl rfl rfl rfl rfl).symm

/-- Point `t` writes back its block of the new scales. -/
theorem flushed_scales (c : Dev nD) (t : Fin cfg0.N) :
    (dats m 0 c).flushed 5 t = ((cfg0.win 5).blk t).view.read (Elt Ideal) (scales m c) := by
  rw [Value.flushed5_A, Block.out_scales]
  funext j
  rw [View.read_apply]
  obtain ⟨p, l, hj⟩ := Trip.eq_zero_row (M := 40) (n := 256) j
  subst hj
  refine (Column.scalesOut_block (iblk0 m c t) (iblk1 m c t) (iblk2 m c t) (iblk3 m c t) p l).trans ?_
  exact congrArg (scales m c) (place t _ _ _ p l _ (idx5 t) rfl rfl rfl rfl rfl).symm

/-- The grid point whose block has matrix `b` and column `l`. -/
def point (b : Fin 3) (l : Fin 13824) : Fin cfg0.N :=
  ⟨54 * b.val + l.val / 256, by rw [show cfg0.N = 162 from N_0]; omega⟩

/-- The byte array ends as the new bytes of the arguments. -/
theorem final_codes (c : Dev nD) : (dats m 0 c).arrAt 4 cfg0.N = codes m c :=
  (dats m 0 c).arrAt_eq_of_cover 4 (codes m c) (fun t _ => flushed_codes m c t) fun i =>
    ⟨point (i 0) (i 2), flush0_4 _, by
      show i ∈ ((View.whole main_v0_0).slice (win0_4.rect (point (i 0) (i 2)))).set
      rw [View.set_slice_whole, Rect.mem_set_unit]
      have h0 : (i 0 : ℕ) < 3 := (i 0).isLt
      have h1 : (i 1 : ℕ) < 2560 := (i 1).isLt
      have h2 : (i 2 : ℕ) < 13824 := (i 2).isLt
      have hi := idx4 (point (i 0) (i 2))
      have hv : (point (i 0) (i 2)).val = 54 * (i 0 : ℕ) + (i 2 : ℕ) / 256 := rfl
      rw [hv] at hi
      intro a
      match a with
      | ⟨0, _⟩ =>
        show win0_4.index (point (i 0) (i 2)) 0 * 1 ≤ (i 0 : ℕ) ∧ (i 0 : ℕ) < win0_4.index (point (i 0) (i 2)) 0 * 1 + 1
        rw [hi]; show _ / 54 * 1 ≤ _ ∧ _ < _ / 54 * 1 + 1; omega
      | ⟨1, _⟩ =>
        show win0_4.index (point (i 0) (i 2)) 1 * 2560 ≤ (i 1 : ℕ) ∧ (i 1 : ℕ) < win0_4.index (point (i 0) (i 2)) 1 * 2560 + 2560
        rw [hi]; show 0 * 2560 ≤ _ ∧ _ < 0 * 2560 + 2560; omega
      | ⟨2, _⟩ =>
        show win0_4.index (point (i 0) (i 2)) 2 * 256 ≤ (i 2 : ℕ) ∧ (i 2 : ℕ) < win0_4.index (point (i 0) (i 2)) 2 * 256 + 256
        rw [hi]; show _ % 54 * 256 ≤ _ ∧ _ < _ % 54 * 256 + 256; omega⟩

/-- The scale array ends as the new scales of the arguments. -/
theorem final_scales (c : Dev nD) : (dats m 0 c).arrAt 5 cfg0.N = scales m c :=
  (dats m 0 c).arrAt_eq_of_cover 5 (scales m c) (fun t _ => flushed_scales m c t) fun i =>
    ⟨point (i 0) (i 2), flush0_5 _, by
      show i ∈ ((View.whole main_v0_1).slice (win0_5.rect (point (i 0) (i 2)))).set
      rw [View.set_slice_whole, Rect.mem_set_unit]
      have h0 : (i 0 : ℕ) < 3 := (i 0).isLt
      have h1 : (i 1 : ℕ) < 40 := (i 1).isLt
      have h2 : (i 2 : ℕ) < 13824 := (i 2).isLt
      have hi := idx5 (point (i 0) (i 2))
      have hv : (point (i 0) (i 2)).val = 54 * (i 0 : ℕ) + (i 2 : ℕ) / 256 := rfl
      rw [hv] at hi
      intro a
      match a with
      | ⟨0, _⟩ =>
        show win0_5.index (point (i 0) (i 2)) 0 * 1 ≤ (i 0 : ℕ) ∧ (i 0 : ℕ) < win0_5.index (point (i 0) (i 2)) 0 * 1 + 1
        rw [hi]; show _ / 54 * 1 ≤ _ ∧ _ < _ / 54 * 1 + 1; omega
      | ⟨1, _⟩ =>
        show win0_5.index (point (i 0) (i 2)) 1 * 40 ≤ (i 1 : ℕ) ∧ (i 1 : ℕ) < win0_5.index (point (i 0) (i 2)) 1 * 40 + 40
        rw [hi]; show 0 * 40 ≤ _ ∧ _ < 0 * 40 + 40; omega
      | ⟨2, _⟩ =>
        show win0_5.index (point (i 0) (i 2)) 2 * 256 ≤ (i 2 : ℕ) ∧ (i 2 : ℕ) < win0_5.index (point (i 0) (i 2)) 2 * 256 + 256
        rw [hi]; show _ % 54 * 256 ≤ _ ∧ _ < _ % 54 * 256 + 256; omega⟩

/-- The run, read: the new bytes, the new scales, the arguments unchanged. -/
theorem run : θ_run defs (onTc (τ := τ) (main (F := Ideal))) ⟨m, fun _ => 0, ρ⟩ fun r => ∀ c : Dev nD,
      r.2.mem (c.tc.loc main_v0_0) = codes m c
      ∧ r.2.mem (c.tc.loc main_v0_1) = scales m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono
    (fun _ h c => ⟨(h c).1.trans (final_codes m c), (h c).2.1.trans (final_scales m c), (h c).2.2⟩)
    (Value.run_blocks m ρ)

end Cert.KernelIdeal.Array

end
-- ==== Proof.RefWeights.lean ====
/-
  What the reference merges: its weights, even rows and odd rows apart, are the columns' merged weights.
-/
module

public import proofs.«01_k».proof.Proof.Numbers
public import proofs.«01_k».proof.Proof.Gen.ReferenceIdeal.Read
public import Idealize.ShloMosaic.Lib.Pointwise

@[expose] public section

set_option maxRecDepth 16384

noncomputable section

namespace Cert.ReferenceIdeal.Ref

open Cert.ReferenceIdeal Cert.ReferenceIdeal.Read Idealize.ShloMosaic

variable (x0 : IVec S3x2560x13824 8) (x1 : FVec Ideal S3x40x13824 .bf16) (x2 : FVec Ideal S3x5120x64 .bf16)
  (x3 : FVec Ideal S3x64x13824 .bf16)

/-- Row `r` of group `g` of matrix `b`, merged, in column `l`. -/
def weightAt (b : Fin 3) (g : Fin 40) (l : Fin 13824) (r : Fin 128) : EReal :=
  Column.weight (fun p => x0 (ix3 b ⟨64 * g.val + p.val, by omega⟩ l)) (x1 (ix3 b g l))
    (fun r k => x2 (ix3 b ⟨128 * g.val + r.val, by omega⟩ k)) (fun k => x3 (ix3 b k l)) r

/-- The even rows' merged weights. -/
theorem even_apply (b : Fin 3) (g : Fin 40) (p : Fin 64) (l : Fin 13824) :
    val_main_v34 (F := Ideal) x0 x1 x2 x3 (ix4 b g p l) = weightAt x0 x1 x2 x3 b g l ⟨2 * p.val, by omega⟩ := by
  pointwise [val_main_v34, val_main_v20, val_main_v18, val_main_v17, val_main_v9, val_main_v6, val_main_v8, val_main_v2, val_main_v0,
    val_main_v1, val_main_c, val_main_v5, val_main_c_1, val_main_v7, val_main_c_2, val_main_v19, val_main_v16, val_main_v15,
    val_main_v33, val_main_v32, val_main_cst, val_main_v28, val_main_v27, val_main_v26, val_main_v25]
  rw [Column.ofBits_half_f32]
  refine congrArg₂ (· + ·) (congrArg₂ (· * ·) ((Column.nibble_low _).trans ?_) rfl) (congrArg _ (Finset.sum_congr rfl fun k _ => ?_))
  · have h : 64 * g.val + 2 * p.val / 2 = g.val * 64 + p.val := by omega
    have h' : 2 * p.val % 2 = 0 := by omega
    simp only [h, h']
  · have h : 128 * g.val + 2 * p.val = g.val * 128 + p.val * 2 := by omega
    simp only [h]

/-- The odd rows' merged weights. -/
theorem odd_apply (b : Fin 3) (g : Fin 40) (p : Fin 64) (l : Fin 13824) :
    val_main_v37 (F := Ideal) x0 x1 x2 x3 (ix4 b g p l) = weightAt x0 x1 x2 x3 b g l ⟨2 * p.val + 1, by omega⟩ := by
  pointwise [val_main_v37, val_main_v24, val_main_v22, val_main_v21, val_main_v14, val_main_v11, val_main_v13, val_main_v4, val_main_v0,
    val_main_v3, val_main_c_0, val_main_v10, val_main_c_3, val_main_v12, val_main_c_4, val_main_v23, val_main_v16, val_main_v15,
    val_main_v36, val_main_v35, val_main_cst_5, val_main_v31, val_main_v30, val_main_v29, val_main_v25]
  rw [Column.ofBits_half_f32]
  refine congrArg₂ (· + ·) (congrArg₂ (· * ·) ((Column.nibble_high _).trans ?_) rfl) (congrArg _ (Finset.sum_congr rfl fun k _ => ?_))
  · have h : 64 * g.val + (2 * p.val + 1) / 2 = g.val * 64 + p.val := by omega
    have h' : (2 * p.val + 1) % 2 = 1 := by omega
    simp only [h, h']
  · have h : 128 * g.val + (2 * p.val + 1) = g.val * 128 + p.val * 2 + 1 := by omega
    simp only [h]

end Cert.ReferenceIdeal.Ref

end
-- ==== Proof.Ref.lean ====
/-
  What the reference computes from its merged weights: the largest absolute value over a group is the larger of the two
  over the group's even and odd rows; so its scales and bytes are the columns' ones.
-/
module

public import proofs.«01_k».proof.Proof.RefWeights
public import Idealize.ShloMosaic.Lib.Pointwise

@[expose] public section

set_option maxRecDepth 16384

noncomputable section

namespace Cert.ReferenceIdeal.Ref

open Cert.ReferenceIdeal Cert.ReferenceIdeal.Read Idealize.ShloMosaic

variable (x0 : IVec S3x2560x13824 8) (x1 : FVec Ideal S3x40x13824 .bf16) (x2 : FVec Ideal S3x5120x64 .bf16)
  (x3 : FVec Ideal S3x64x13824 .bf16)

/-- Where the reduction over the rows of a group reads. -/
theorem lift_eq (h : S3x40x64x13824.Reduces [2] S3x40x13824) (b : Fin 3) (g : Fin 40) (l : Fin 13824) (p : Fin 64) :
    h.lift (ix3 b g l) p = ix4 b g p l := by
  funext a
  apply Fin.ext
  refine (Shape.Reduces.lift_val h (ix3 b g l) p a).trans ?_
  match a with
  | ⟨0, _⟩ => rfl
  | ⟨1, _⟩ => rfl
  | ⟨2, _⟩ => rfl
  | ⟨3, _⟩ => rfl

/-- The largest value over the rows of a group. -/
theorem reduce_rows (V : FVec Ideal S3x40x64x13824 .f32) (h' : S3x40x64x13824.ReducesTo [2] S3x40x13824) (hu : 0 < S_.numel)
    (b : Fin 3) (g : Fin 40) (l : Fin 13824) :
    Host.reduce FloatOps.maximumf V (constant S_ .f32 0xFF800000#32 : FVec Ideal S_ .f32) h' hu (ix3 b g l)
      = Finset.univ.fold max ⊥ fun p => V (ix4 b g p l) := by
  have h : S3x40x64x13824.Reduces [2] S3x40x13824 := by decide
  rw [Host.reduce_eq_fold_single FloatOps.maximumf V _ _ h, ← Column.ofBits_neg_inf]
  refine Finset.fold_congr fun p _ => ?_
  exact congrArg V (lift_eq h b g l p)

/-- The largest absolute value over the even rows of a group. -/
theorem even_peak (b : Fin 3) (g : Fin 40) (l : Fin 13824) :
    val_main_v39 (F := Ideal) x0 x1 x2 x3 (ix3 b g l)
      = Finset.univ.fold max ⊥ fun p : Fin 64 => max (weightAt x0 x1 x2 x3 b g l ⟨2 * p.val, by omega⟩) (-weightAt x0 x1 x2 x3 b g l ⟨2 * p.val, by omega⟩) := by
  have h := even_apply x0 x1 x2 x3
  unfold val_main_v39 val_main_cst_6 val_main_v38
  generalize val_main_v34 (F := Ideal) x0 x1 x2 x3 = V at h ⊢
  rw [reduce_rows]
  refine Finset.fold_congr fun p _ => ?_
  rw [← h b g p l]
  rfl

/-- The largest absolute value over the odd rows of a group. -/
theorem odd_peak (b : Fin 3) (g : Fin 40) (l : Fin 13824) :
    val_main_v41 (F := Ideal) x0 x1 x2 x3 (ix3 b g l)
      = Finset.univ.fold max ⊥ fun p : Fin 64 => max (weightAt x0 x1 x2 x3 b g l ⟨2 * p.val + 1, by omega⟩) (-weightAt x0 x1 x2 x3 b g l ⟨2 * p.val + 1, by omega⟩) := by
  have h := odd_apply x0 x1 x2 x3
  unfold val_main_v41 val_main_cst_7 val_main_v40
  generalize val_main_v37 (F := Ideal) x0 x1 x2 x3 = V at h ⊢
  rw [reduce_rows]
  refine Finset.fold_congr fun p _ => ?_
  rw [← h b g p l]
  rfl

/-- The largest absolute value of a group's merged weights. -/
theorem peak_apply (b : Fin 3) (g : Fin 40) (l : Fin 13824) :
    val_main_v42 (F := Ideal) x0 x1 x2 x3 (ix3 b g l) = Column.peak (weightAt x0 x1 x2 x3 b g l) := by
  rw [val_main_v42_apply, even_peak, odd_peak]
  exact Column.fold_max_pairs fun r => max (weightAt x0 x1 x2 x3 b g l r) (-weightAt x0 x1 x2 x3 b g l r)

/-- The scale taken from a largest absolute value. -/
theorem step_apply {S : Shape} (A : FVec Ideal S .f32) (i : S.Idx) (h1 h2 h3 hb) :
    (truncf .bf16 (select (cmpf .oeq A (broadcastInDim S (s := S_) ![] h1 (constant S_ .f32 0x00000000#32)))
      (broadcastInDim S (s := S_) ![] h2 (id (constant S_ .f32 0x3F800000#32)))
      (Host.divf A (broadcastInDim S (s := S_) ![] h3 (constant S_ .f32 0x40E00000#32)))) hb : FVec Ideal S .bf16) i
      = Column.step (A i) := by
  simp only [id_eq]
  pointwise []
  rw [Column.ofBits_seven]
  rfl

/-- The integer taken from a merged weight and its group's scale. -/
theorem level_apply (W : FVec Ideal S3x40x64x13824 .f32) (S : FVec Ideal S3x40x13824 .bf16) (b : Fin 3) (g : Fin 40) (p : Fin 64)
    (l : Fin 13824) (h1 h2 h3 h4 hb) :
    fptosi 32 (minimumf (broadcastInDim S3x40x64x13824 (s := S_) ![] h1 (id (constant S_ .f32 0x40E00000#32)))
      (maximumf (broadcastInDim S3x40x64x13824 (s := S_) ![] h2 (id (constant S_ .f32 0xC0E00000#32)))
        (Host.roundeven (Host.divf W (broadcastInDim S3x40x64x13824 ![0, 1, 2, 3] h3
          (broadcastInDim S3x40x1x13824 ![0, 1, 3] h4 (extf .f32 S hb))))))) (ix4 b g p l)
      = Column.level (W (ix4 b g p l)) (S (ix3 b g l)) := by
  simp only [id_eq]
  pointwise []
  rw [Column.ofBits_seven, Column.ofBits_neg_seven]
  rfl

/-- The new scales. -/
theorem scale_apply (b : Fin 3) (g : Fin 40) (l : Fin 13824) :
    val_main_v48 (F := Ideal) x0 x1 x2 x3 (ix3 b g l) = Column.scaleAt x0 x1 x2 x3 b g l := by
  have h : val_main_v48 (F := Ideal) x0 x1 x2 x3 (ix3 b g l) = Column.step (val_main_v42 (F := Ideal) x0 x1 x2 x3 (ix3 b g l)) := by
    unfold val_main_v48 val_main_v47 val_main_v44 val_main_v43 val_main_cst_8 val_main_call2_v1 val_main_call2_v0 val_main_cst_10
      val_main_v46 val_main_v45 val_main_cst_9
    exact step_apply _ _ _ _ _ _
  rw [h, peak_apply]
  rfl

/-- The even rows' integers. -/
theorem even_level (b : Fin 3) (g : Fin 40) (p : Fin 64) (l : Fin 13824) :
    val_main_v55 (F := Ideal) x0 x1 x2 x3 (ix4 b g p l)
      = Column.level (weightAt x0 x1 x2 x3 b g l ⟨2 * p.val, by omega⟩) (Column.scaleAt x0 x1 x2 x3 b g l) := by
  rw [← even_apply, ← scale_apply]
  unfold val_main_v55 val_main_v54 val_main_call4_v4 val_main_call4_v3 val_main_cst_12 val_main_call4_v2 val_main_call4_v1
    val_main_call4_v0 val_main_cst_11 val_main_v53 val_main_v52 val_main_v51 val_main_v50 val_main_v49
  exact level_apply _ _ b g p l _ _ _ _ _

/-- The odd rows' integers. -/
theorem odd_level (b : Fin 3) (g : Fin 40) (p : Fin 64) (l : Fin 13824) :
    val_main_v61 (F := Ideal) x0 x1 x2 x3 (ix4 b g p l)
      = Column.level (weightAt x0 x1 x2 x3 b g l ⟨2 * p.val + 1, by omega⟩) (Column.scaleAt x0 x1 x2 x3 b g l) := by
  rw [← odd_apply, ← scale_apply]
  unfold val_main_v61 val_main_v60 val_main_call6_v4 val_main_call6_v3 val_main_cst_14 val_main_call6_v2 val_main_call6_v1
    val_main_call6_v0 val_main_cst_13 val_main_v59 val_main_v58 val_main_v57 val_main_v50 val_main_v49
  exact level_apply _ _ b g p l _ _ _ _ _

/-- The new bytes, by group. -/
theorem code_apply (b : Fin 3) (g : Fin 40) (p : Fin 64) (l : Fin 13824) :
    val_main_v72 (F := Ideal) x0 x1 x2 x3 (ix4 b g p l) = Column.codeAt x0 x1 x2 x3 b g p l := by
  have he := even_level x0 x1 x2 x3 b g p l
  have ho := odd_level x0 x1 x2 x3 b g p l
  unfold val_main_v72 val_main_v71 val_main_v70 val_main_v69 val_main_c_17 val_main_v68 val_main_v67 val_main_c_16
    val_main_v66 val_main_v65 val_main_v64 val_main_c_15 val_main_v63 val_main_v62 val_main_v56
  generalize val_main_v55 (F := Ideal) x0 x1 x2 x3 = P at he ⊢
  generalize val_main_v61 (F := Ideal) x0 x1 x2 x3 = Q at ho ⊢
  pointwise []
  rw [he, ho]
  exact Column.pack_cut 8 (by decide) _ _

/-- The reference's scales are the new scales. -/
theorem scales_eq : val_main_v48 (F := Ideal) x0 x1 x2 x3 = Column.scalesOut x0 x1 x2 x3 := by
  funext y
  rw [eq_ix3 y]
  exact scale_apply x0 x1 x2 x3 (y 0) (y 1) (y 2)

/-- The reference's bytes are the new bytes. -/
theorem codes_eq : val_main_v73 (F := Ideal) x0 x1 x2 x3 = Column.codesOut x0 x1 x2 x3 := by
  have h := code_apply x0 x1 x2 x3
  unfold val_main_v73
  generalize val_main_v72 (F := Ideal) x0 x1 x2 x3 = C at h ⊢
  funext y
  rw [eq_ix3 y]
  pointwise []
  exact h _ _ _ _

end Cert.ReferenceIdeal.Ref

end
-- ==== Proof.lean ====
/-
  The five claims: the kernel, its idealization and the reference run and leave their arguments and every semaphore as they
  were; the idealization is the kernel's own text; and the idealization and the reference end with equal packed bytes and
  equal scales. The equality is that both results are the functions of the arguments stated in Proof/Column.lean:
  Proof/Array.lean for the kernel, Proof/Ref.lean for the reference.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.SL.Sem

/-- The reference leaves its arguments as they were; it declares no semaphore. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel and the reference end with the same bytes and the same scales: the arguments' new bytes and new scales. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Array.codes m c, fun c => Cert.KernelIdeal.Array.scales m c, Cert.KernelIdeal.Array.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v73_eq, Cert.ReferenceIdeal.Ref.codes_eq, (hag c).1, (hag c).2.1, (hag c).2.2.1, (hag c).2.2.2]
  · rw [Cert.ReferenceIdeal.Read.val_main_v48_eq, Cert.ReferenceIdeal.Ref.scales_eq, (hag c).1, (hag c).2.1, (hag c).2.2.1, (hag c).2.2.2]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
